-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_times_level_scores [hPre_ordered_times_level_scores : Cert.Pre_ordered_times_level_scores.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_times_level_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_times_level_scores [hPre_ordered_times_level_scores : Cert.Pre_ordered_times_level_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_times_level_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ordered_times_level_scores [hKernelIdeal : Cert.KernelIdeal.Facts] [hPre_ordered_times_level_scores : Cert.Pre_ordered_times_level_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_times_level_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ordered_times_level_scores [hReferenceIdeal : Cert.ReferenceIdeal.Facts] [hPre_ordered_times_level_scores : Cert.Pre_ordered_times_level_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_times_level_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ordered_times_level_scores [hKernelIdeal : Cert.KernelIdeal.Facts] [hReferenceIdeal : Cert.ReferenceIdeal.Facts] [hPre_ordered_times_level_scores : Cert.Pre_ordered_times_level_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_times_level_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ordered_times_level_scores : Cert.Pre_ordered_times_level_scores.Facts),
    quiescent_Kernel (hKernel := hKernel)
    ∧ quiescent_KernelIdeal (hKernelIdeal := hKernelIdeal)
    ∧ quiescent_KernelIdeal_pre_ordered_times_level_scores (hKernelIdeal := hKernelIdeal) (hPre_ordered_times_level_scores := hPre_ordered_times_level_scores)
    ∧ quiescent_ReferenceIdeal (hReferenceIdeal := hReferenceIdeal)
    ∧ quiescent_ReferenceIdeal_pre_ordered_times_level_scores (hReferenceIdeal := hReferenceIdeal) (hPre_ordered_times_level_scores := hPre_ordered_times_level_scores)
    ∧ preserves_Kernel_KernelIdeal
    ∧ algebraic_KernelIdeal_ReferenceIdeal_pre_ordered_times_level_scores (hKernelIdeal := hKernelIdeal) (hReferenceIdeal := hReferenceIdeal) (hPre_ordered_times_level_scores := hPre_ordered_times_level_scores)
-- ==== Pre_ordered_times_level_scores.lean ====
abbrev S4096x4096 : Shape := ⟨2, ![4096, 4096]⟩
abbrev S4096x1 : Shape := ⟨2, ![4096, 1]⟩
abbrev S_ : Shape := ⟨0, ![]⟩
abbrev S4096x2 : Shape := ⟨2, ![4096, 2]⟩
abbrev S4095x4096 : Shape := ⟨2, ![4095, 4096]⟩

class Facts : Prop where
  slices_S4096x4096_S4096x1_0_0 : S4096x4096.Slices ![0, 0] S4096x1
  bcast_S_S4096x1 : S_.BroadcastsInDim S4096x1 (![] : Fin 0 → Fin S4096x1.rank)
  reducesTo_S4096x1_S_d0_1 : S4096x1.ReducesTo [0, 1] S_
  h_S_ : 0 < S_.numel
  slices_S4096x4096_S4096x2_0_1 : S4096x4096.Slices ![0, 1] S4096x2
  bcast_S_S4096x2 : S_.BroadcastsInDim S4096x2 (![] : Fin 0 → Fin S4096x2.rank)
  reducesTo_S4096x2_S_d0_1 : S4096x2.ReducesTo [0, 1] S_
  bcast_S_S4096x4096 : S_.BroadcastsInDim S4096x4096 (![] : Fin 0 → Fin S4096x4096.rank)
  reducesTo_S4096x4096_S_d0_1 : S4096x4096.ReducesTo [0, 1] S_
  slices_S4096x4096_S4095x4096_0_0 : S4096x4096.Slices ![0, 0] S4095x4096
  slices_S4096x4096_S4095x4096_1_0 : S4096x4096.Slices ![1, 0] S4095x4096
  reducesTo_S4095x4096_S_d0_1 : S4095x4096.ReducesTo [0, 1] S_

variable [Facts]

def fn_part1 {F : FTy → Type} [FloatOps F] (main_arg1 : FVec F S4096x4096 .f32) (main_arg2 : IVec S4096x4096 1) (main_v13 : IVec S_ 1) (main_v15 : FVec F S4096x4096 .f32) (main_cst_5 : FVec F S_ .f32) : IVec S_ 1 :=
  let main_v16 : FVec F S4096x4096 .f32 := broadcastInDim S4096x4096 ![] bcast_S_S4096x4096 main_cst_5
  let main_v17 : IVec S4096x4096 1 := cmpf .une main_v15 main_v16
  let main_c_6 : IVec S_ 1 := constantI S_ 1 1#1
  let main_v18 : IVec S_ 1 := (fun x v => Host.reduce IntOp.andi x v reducesTo_S4096x4096_S_d0_1 h_S_) main_v17 main_c_6
  let main_v19 : IVec S_ 1 := andi main_v13 main_v18
  let main_cst_7 : FVec F S_ .f32 := constant S_ .f32 0x4E6E6B28#32
  let main_v20 : FVec F S4096x4096 .f32 := broadcastInDim S4096x4096 ![] bcast_S_S4096x4096 main_cst_7
  let main_v21 : IVec S4096x4096 1 := cmpf .olt main_arg1 main_v20
  let main_v22 : IVec S4096x4096 1 := noti main_arg2
  let main_v23 : IVec S4096x4096 1 := ori main_v21 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v19 main_v24
  let main_v26 : FVec F S4095x4096 .f32 := (extractStridedSlice S4095x4096 ![0, 0] · slices_S4096x4096_S4095x4096_0_0) main_arg1
  let main_v27 : FVec F S4095x4096 .f32 := (extractStridedSlice S4095x4096 ![1, 0] · slices_S4096x4096_S4095x4096_1_0) main_arg1
  let main_v28 : IVec S4095x4096 1 := cmpf .ole main_v26 main_v27
  let main_c_9 : IVec S_ 1 := constantI S_ 1 1#1
  let main_v29 : IVec S_ 1 := (fun x v => Host.reduce IntOp.andi x v reducesTo_S4095x4096_S_d0_1 h_S_) main_v28 main_c_9
  let main_v30 : IVec S_ 1 := andi main_v25 main_v29
  main_v30

def fn {F : FTy → Type} [FloatOps F] (main_arg0 : FVec F S4096x4096 .f32) (main_arg1 : FVec F S4096x4096 .f32) (main_arg2 : IVec S4096x4096 1) : IVec S_ 1 :=
  let main_v0 : FVec F S4096x1 .f32 := (extractStridedSlice S4096x1 ![0, 0] · slices_S4096x4096_S4096x1_0_0) main_arg0
  let main_cst : FVec F S_ .f32 := constant S_ .f32 0xFF800000#32
  let main_v1 : FVec F S4096x1 .f32 := broadcastInDim S4096x1 ![] bcast_S_S4096x1 main_cst
  let main_v2 : IVec S4096x1 1 := cmpf .ogt main_v0 main_v1
  let main_c : IVec S_ 1 := constantI S_ 1 1#1
  let main_v3 : IVec S_ 1 := (fun x v => Host.reduce IntOp.andi x v reducesTo_S4096x1_S_d0_1 h_S_) main_v2 main_c
  let main_v4 : FVec F S4096x1 .f32 := (extractStridedSlice S4096x1 ![0, 0] · slices_S4096x4096_S4096x1_0_0) main_arg0
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x2 .f32 := (extractStridedSlice S4096x2 ![0, 1] · slices_S4096x4096_S4096x2_0_1) main_arg0
  let main_cst_2 : FVec F S_ .f32 := constant S_ .f32 0x00000000#32
  let main_v10 : FVec F S4096x2 .f32 := broadcastInDim S4096x2 ![] bcast_S_S4096x2 main_cst_2
  let main_v11 : IVec S4096x2 1 := cmpf .oeq main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_cst_4 : FVec F S_ .f32 := constant S_ .f32 0x33D6BF95#32
  let main_v14 : FVec F S4096x4096 .f32 := broadcastInDim S4096x4096 ![] bcast_S_S4096x4096 main_cst_4
  let main_v15 : FVec F S4096x4096 .f32 := addf main_arg1 main_v14
  let main_cst_5 : FVec F S_ .f32 := constant S_ .f32 0x00000000#32
  fn_part1 (F := F) main_arg1 main_arg2 main_v13 main_v15 main_cst_5
-- ==== Kernel.lean ====
abbrev S4096x4096 : Shape := ⟨2, ![4096, 4096]⟩
abbrev S4096x128x32 : Shape := ⟨3, ![4096, 128, 32]⟩
abbrev S32 : Shape := ⟨1, ![32]⟩
abbrev S_ : Shape := ⟨0, ![]⟩
abbrev S1x1x32 : Shape := ⟨3, ![1, 1, 32]⟩
abbrev S4096x128 : Shape := ⟨2, ![4096, 128]⟩
abbrev S1x1 : Shape := ⟨2, ![1, 1]⟩
abbrev S1024x128 : Shape := ⟨2, ![1024, 128]⟩
abbrev S8x128 : Shape := ⟨2, ![8, 128]⟩
abbrev S8x1024 : Shape := ⟨2, ![8, 1024]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 16
  | .vmem => 3
  | .smem => 1
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i1⟩
  | .hbm, ⟨3, _⟩ => ⟨S4096x128x32, .i1⟩
  | .hbm, ⟨4, _⟩ => ⟨S4096x128x32, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S1x1x32, .i32⟩
  | .hbm, ⟨10, _⟩ => ⟨S4096x128x32, .i32⟩
  | .hbm, ⟨11, _⟩ => ⟨S4096x128x32, .i32⟩
  | .hbm, ⟨12, _⟩ => ⟨S_, .i32⟩
  | .hbm, ⟨13, _⟩ => ⟨S4096x128, .i32⟩
  | .hbm, ⟨14, _⟩ => ⟨S1x1, .f32⟩
  | .hbm, ⟨15, _⟩ => ⟨S_, .f32⟩
  | .local _ .vmem, ⟨0, _⟩ => ⟨S1024x128, .i32⟩
  | .local _ .vmem, ⟨1, _⟩ => ⟨S1024x128, .i32⟩
  | .local _ .vmem, ⟨2, _⟩ => ⟨S8x128, .f32⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let v30 : BitVec 32 := Scalar.extui v29
  let c0_i32_9 : BitVec 32 := 0#32
  let v31 : BitVec 1 := Scalar.cmpi .ne v30 c0_i32_9
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S4096x1 : Shape := ⟨2, ![4096, 1]⟩
abbrev S4096 : Shape := ⟨1, ![4096]⟩
abbrev S1x4096 : Shape := ⟨2, ![1, 4096]⟩

abbrev nBuf : Space → Nat
  | .hbm => 112
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .i1⟩
  | .hbm, ⟨3, _⟩ => ⟨S4096x4096, .i32⟩
  | .hbm, ⟨4, _⟩ => ⟨S4096x4096, .f32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i1⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S4096x4096x1, .i32⟩
  | .hbm, ⟨14, _⟩ => ⟨S1, .i32⟩
  | .hbm, ⟨15, _⟩ => ⟨S_, .i32⟩
  | .hbm, ⟨16, _⟩ => ⟨S4096x4096x1, .i32⟩
  | .hbm, ⟨17, _⟩ => ⟨S4096x4096x1, .i1⟩
  | .hbm, ⟨18, _⟩ => ⟨S1x1x1, .i32⟩
  | .hbm, ⟨19, _⟩ => ⟨S4096x4096x1, .i32⟩
  | .hbm, ⟨20, _⟩ => ⟨S4096x4096x1, .i1⟩
  | .hbm, ⟨21, _⟩ => ⟨S4096x4096x1, .i1⟩
  | .hbm, ⟨22, _⟩ => ⟨S_, .i1⟩
  | .hbm, ⟨23, _⟩ => ⟨S4096x4096, .i1⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S4096x4096x1, .i32⟩
  | .hbm, ⟨36, _⟩ => ⟨S1, .i32⟩
  | .hbm, ⟨37, _⟩ => ⟨S_, .i32⟩
  | .hbm, ⟨38, _⟩ => ⟨S4096x4096x1, .i32⟩
  | .hbm, ⟨39, _⟩ => ⟨S4096x4096x1, .i1⟩
  | .hbm, ⟨40, _⟩ => ⟨S1x1x1, .i32⟩
  | .hbm, ⟨41, _⟩ => ⟨S4096x4096x1, .i32⟩
  | .hbm, ⟨42, _⟩ => ⟨S4096x4096x1, .i1⟩
  | .hbm, ⟨43, _⟩ => ⟨S4096x4096x1, .i1⟩
  | .hbm, ⟨44, _⟩ => ⟨S_, .i1⟩
  | .hbm, ⟨45, _⟩ => ⟨S4096x4096, .i1⟩
  | .hbm, ⟨46, _⟩ => ⟨S4096x4096, .i1⟩
  | .hbm, ⟨47, _⟩ => ⟨S_, .i1⟩
  | .hbm, ⟨48, _⟩ => ⟨S4096x4096, .i1⟩
  | .hbm, ⟨49, _⟩ => ⟨S4096x4096, .i1⟩
  | .hbm, ⟨50, _⟩ => ⟨S_, .i32⟩
  | .hbm, ⟨51, _⟩ => ⟨S4096x4096, .i32⟩
  | .hbm, ⟨52, _⟩ => ⟨S4096x4096, .i1⟩
  | .hbm, ⟨53, _⟩ => ⟨S_, .i32⟩
  | .hbm, ⟨54, _⟩ => ⟨S4096x4096, .i32⟩
  | .hbm, ⟨55, _⟩ => ⟨S4096x4096, .i32⟩
  | .hbm, ⟨56, _⟩ => ⟨S4096x4096, .i32⟩
  | .hbm, ⟨57, _⟩ => ⟨S4096x4096x1, .i32⟩
  | .hbm, ⟨58, _⟩ => ⟨S1, .i32⟩
  | .hbm, ⟨59, _⟩ => ⟨S_, .i32⟩
  | .hbm, ⟨60, _⟩ => ⟨S4096x4096x1, .i32⟩
  | .hbm, ⟨61, _⟩ => ⟨S4096x4096x1, .i1⟩
  | .hbm, ⟨62, _⟩ => ⟨S1x1x1, .i32⟩
  | .hbm, ⟨63, _⟩ => ⟨S4096x4096x1, .i32⟩
  | .hbm, ⟨64, _⟩ => ⟨S4096x4096x1, .i1⟩
  | .hbm, ⟨65, _⟩ => ⟨S4096x4096x1, .i1⟩
  | .hbm, ⟨66, _⟩ => ⟨S_, .i1⟩
  | .hbm, ⟨67, _⟩ => ⟨S4096x4096, .i1⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x1, .f32⟩
  | .hbm, ⟨73, _⟩ => ⟨S4096, .f32⟩
  | .hbm, ⟨74, _⟩ => ⟨S4096x1, .f32⟩
  | .hbm, ⟨75, _⟩ => ⟨S4096, .f32⟩
  | .hbm, ⟨76, _⟩ => ⟨S1x4096, .f32⟩
  | .hbm, ⟨77, _⟩ => ⟨S4096x4096, .f32⟩
  | .hbm, ⟨78, _⟩ => ⟨S4096x4096, .f32⟩
  | .hbm, ⟨79, _⟩ => ⟨S1x4096, .f32⟩
  | .hbm, ⟨80, _⟩ => ⟨S4096x4096, .f32⟩
  | .hbm, ⟨81, _⟩ => ⟨S4096x4096, .f32⟩
  | .hbm, ⟨82, _⟩ => ⟨S4096x1, .f32⟩
  | .hbm, ⟨83, _⟩ => ⟨S4096, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S1x4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S_, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S4096x4096, .f32⟩
  | .hbm, ⟨99, _⟩ => ⟨S4096x4096, .i1⟩
  | .hbm, ⟨100, _⟩ => ⟨S4096x4096, .i1⟩
  | .hbm, ⟨101, _⟩ => ⟨S4096x4096, .f32⟩
  | .hbm, ⟨102, _⟩ => ⟨S4096x4096, .f32⟩
  | .hbm, ⟨103, _⟩ => ⟨S4096x4096, .f32⟩
  | .hbm, ⟨104, _⟩ => ⟨S4096x4096, .f32⟩
  | .hbm, ⟨105, _⟩ => ⟨S4096x4096, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v1 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_c_4 : Ref sig .tc := ⟨.hbm, 47, rfl⟩
abbrev main_call2_v14 : Ref sig .tc := ⟨.hbm, 48, rfl⟩
abbrev main_v2 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_v12 : Ref sig .tc := ⟨.hbm, 80, rfl⟩
abbrev main_v13 : Ref sig .tc := ⟨.hbm, 81, rfl⟩
abbrev main_v14 : Ref sig .tc := ⟨.hbm, 82, rfl⟩
abbrev main_v15 : Ref sig .tc := ⟨.hbm, 83, rfl⟩
abbrev main_cst : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_call5_call0_cst : Ref sig .tc := ⟨.hbm, 93, rfl⟩
abbrev main_call5_call0_v0 : Ref sig .tc := ⟨.hbm, 94, rfl⟩
abbrev main_v24 : Ref sig .tc := ⟨.hbm, 95, rfl⟩
abbrev main_v25 : Ref sig .tc := ⟨.hbm, 96, rfl⟩
abbrev main_cst_0 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_cst_1 : Ref sig .tc := ⟨.hbm, 106, rfl⟩
abbrev main_v34 : Ref sig .tc := ⟨.hbm, 107, rfl⟩
abbrev main_cst_2 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩

abbrev nD : Nat := 1
abbrev τ : Topo := Topo.v7x

variable {F : FTy → Type} [FloatOps F]
-- ==== Proof.Loss.lean ====
module

public import Idealize.ShloMosaic.Lib.Pipeline.ValueKit
public import Idealize.ShloMosaic.Lib.Pointwise

@[expose] public section

noncomputable section

/-!
# The number both programs compute

When all samples of a column have the same score, the risk set of the sample at sorted position `r` sums to `4096 - r` times
their hazard, and the score cancels against the hazard's logarithm. What is left of the loss is the sum of
`log (4096 - r)` over the events, divided by the number of events.
-/

namespace Cert.Loss

open Idealize.ShloMosaic

/-- How many events there are. -/
def count (e : Fin 4096 → Fin 4096 → ℕ) : ℝ := ∑ r : Fin 4096, ∑ q : Fin 4096, (e r q : ℝ)

/-- The logarithm of the number of samples at risk at sorted position `r`. -/
def weight (r : Fin 4096) : ℝ := Real.log (4096 - (r.val : ℝ))

/-- The sum over the events of the logarithm of the number at risk. -/
def weighted (e : Fin 4096 → Fin 4096 → ℕ) : ℝ := ∑ r : Fin 4096, ∑ q : Fin 4096, weight r * (e r q : ℝ)

/-- The loss at scores level down every column. -/
def loss (e : Fin 4096 → Fin 4096 → ℕ) : EReal := Ideal.div (weighted e : EReal) (count e : EReal)

/-- A finite sum of reals is the same sum taken among the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- At least one sample is at risk. -/
theorem at_risk_pos (r : Fin 4096) : (0 : ℝ) < 4096 - (r.val : ℝ) := by
  have h : (r.val : ℝ) < 4096 := by exact_mod_cast r.isLt
  linarith

/-- The logarithm of the number at risk is a real number. -/
theorem log_at_risk (r : Fin 4096) : Ideal.log ((4096 - (r.val : ℝ) : ℝ) : EReal) = (weight r : EReal) := by
  rw [Ideal.log_coe, if_neg (not_le.mpr (at_risk_pos r))]
  rfl

/-- A score less the logarithm of its risk set's sum: the score cancels. -/
theorem sub_log_level (r : Fin 4096) (c : ℝ) :
    (c : EReal) - Ideal.log (((4096 - (r.val : ℝ)) * Real.exp c : ℝ) : EReal) = ((-weight r : ℝ) : EReal) := by
  rw [Ideal.log_coe, if_neg (not_le.mpr (mul_pos (at_risk_pos r) (Real.exp_pos c))),
    Real.log_mul (at_risk_pos r).ne' (Real.exp_pos c).ne', Real.log_exp, ← EReal.coe_sub]
  congr 1
  unfold weight
  ring

/-- Four blocks of 1024 rows and 128 words of 32 columns run over the whole square. -/
theorem sum_blocks (f : Fin 4096 → Fin 4096 → ℝ) {N : ℕ} (hN : N = 4)
    (hr : ∀ (p : Fin N) (k : Fin 1024), p.val * 1024 + k.val < 4096)
    (hq : ∀ (l : Fin 128) (b : Fin 32), l.val * 32 + b.val < 4096) :
    ∑ l : Fin 128, ∑ p : Fin N, ∑ k : Fin 1024, ∑ b : Fin 32, f ⟨p.val * 1024 + k.val, hr p k⟩ ⟨l.val * 32 + b.val, hq l b⟩
      = ∑ r : Fin 4096, ∑ q : Fin 4096, f r q := by
  subst hN
  have h1 : ∀ l : Fin 128, ∑ p : Fin 4, ∑ k : Fin 1024, ∑ b : Fin 32,
      f ⟨p.val * 1024 + k.val, hr p k⟩ ⟨l.val * 32 + b.val, hq l b⟩
        = ∑ r : Fin 4096, ∑ b : Fin 32, f r ⟨l.val * 32 + b.val, hq l b⟩ := fun l =>
    Fin.sum_mul_add_congr (fun _ _ _ => rfl)
  rw [Finset.sum_congr rfl fun l _ => h1 l, Finset.sum_comm]
  exact Finset.sum_congr rfl fun r _ => Fin.sum_mul_add_congr fun _ _ _ => rfl

end Cert.Loss

end
-- ==== Proof.KernelValue.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Loss

@[expose] public section

set_option maxRecDepth 16384

noncomputable section

/-!
# What the kernel's body computes

The kernel walks over four blocks of rows of packed words. Its accumulator's first row gathers the
counts of the words weighted by the logarithm of the number at risk, its second row the counts; the
last step divides the sum of the first row by the sum of the second.
-/

namespace Cert.KernelIdeal.Value

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- What one block of packed words adds to the accumulator. -/
def part (i : grid0.Coords) (x : Vec Ideal S1024x128 .i32) : Vec Ideal S8x128 .f32 :=
  k0_pay2 i x fun _ => (0 : EReal)

/-- The accumulator starts at zero. -/
theorem pay1_apply (j : S8x128.Idx) : k0_pay1 (F := Ideal) j = (0 : EReal) := by pointwise [k0_pay1]

/-- A step adds the block's part to the accumulator. -/
theorem pay2_apply (i : grid0.Coords) (x : Vec Ideal S1024x128 .i32) (acc : Vec Ideal S8x128 .f32) (j : S8x128.Idx) :
    k0_pay2 i x acc j = acc j + part i x j := by
  pointwise [k0_pay2, part]

/-- The last step's quotient: one row's sum over the other's. -/
theorem pay3_apply (a b : Vec Ideal S1x128 .f32) :
    k0_pay3 a b = Ideal.div (∑ l : Fin 128, a (ix2 0 l)) (∑ l : Fin 128, b (ix2 0 l)) := by
  pointwise [k0_pay3]
  simp

/-- The number at risk at row `k` of block `t`: the words the kernel subtracts do not wrap. -/
theorem at_risk_word (t : ℕ) (ht : t < 4) (k : Fin 1024) (h : t * 1024 + k.val < 4096) :
    FloatOps.sitofp (F := Ideal) .f32
        (IntOp.subi (Scalar.subi (4096#32) (Scalar.muli (BitVec.ofNat 32 t) 1024#32)) (BitVec.ofNat 32 k.val))
      = ((4096 - (((⟨t * 1024 + k.val, h⟩ : Fin 4096).val : ℕ) : ℝ) : ℝ) : EReal) := by
  have hk := k.isLt
  have hw : IntOp.subi (Scalar.subi (4096#32) (Scalar.muli (BitVec.ofNat 32 t) 1024#32)) (BitVec.ofNat 32 k.val)
      = BitVec.ofNat 32 (4096 - (t * 1024 + k.val)) := by
    apply BitVec.eq_of_toNat_eq
    show ((4096#32 - BitVec.ofNat 32 t * 1024#32) - BitVec.ofNat 32 k.val).toNat = _
    simp only [BitVec.toNat_sub, BitVec.toNat_mul, BitVec.toNat_ofNat]
    omega
  rw [hw]
  show ((((BitVec.ofNat 32 (4096 - (t * 1024 + k.val))).toInt : ℝ)) : EReal) = _
  rw [BitVec.toInt_eq_toNat_of_lt (by rw [BitVec.toNat_ofNat]; omega), BitVec.toNat_ofNat, Nat.mod_eq_of_lt (by omega)]
  congr 1
  rw [Int.cast_natCast, Nat.cast_sub (by omega)]
  norm_num

/-- The accumulator's first row: each word's count weighted by the logarithm of the number at risk. -/
theorem part_log (i : grid0.Coords) (x : Vec Ideal S1024x128 .i32) (n : Fin 1024 → Fin 128 → ℝ)
    (hx : ∀ k l, FloatOps.sitofp (F := Ideal) .f32 (IntOp.ctpop (x (ix2 k l))) = (n k l : EReal))
    (hi : (i 0).val < 4) (h : ∀ k : Fin 1024, (i 0).val * 1024 + k.val < 4096) (l : Fin 128) :
    part i x (ix2 0 l)
      = ((∑ k : Fin 1024, Loss.weight ⟨(i 0).val * 1024 + k.val, h k⟩ * n k l : ℝ) : EReal) := by
  pointwise [part, k0_pay2]
  rw [Loss.coe_sum]
  refine Finset.sum_congr rfl fun k _ => ?_
  rw [at_risk_word _ hi k (h k), Loss.log_at_risk, hx, EReal.coe_mul]

/-- The accumulator's second row: each word's count. -/
theorem part_one (i : grid0.Coords) (x : Vec Ideal S1024x128 .i32) (n : Fin 1024 → Fin 128 → ℝ)
    (hx : ∀ k l, FloatOps.sitofp (F := Ideal) .f32 (IntOp.ctpop (x (ix2 k l))) = (n k l : EReal))
    (l : Fin 128) :
    part i x (ix2 1 l) = ((∑ k : Fin 1024, n k l : ℝ) : EReal) := by
  pointwise [part, k0_pay2]
  rw [Loss.coe_sum]
  refine Finset.sum_congr rfl fun k _ => ?_
  rw [hx]
  exact one_mul _

/-- The first step leaves the first block's part. -/
theorem acc_reset (c : Dev nD) (t : Fin cfg0.N) (h0 : t.val % 4 = 0) (j : S8x128.Idx) :
    (outsAt0 m c t.val t.isLt).2 j = 0 + part (grid0.coords t) (iblk m c 0 t) j := by
  have h1 : ¬t.val % 4 = 3 := by omega
  rw [outsAt0_A m c t h0 h1]; frame_out
  rw [pay2_apply, pay1_apply]

/-- Every later step adds its block's part to what the step before left. -/
theorem acc_step (c : Dev nD) (t : Fin cfg0.N) (h0 : ¬t.val % 4 = 0) (j : S8x128.Idx) :
    (outsAt0 m c t.val t.isLt).2 j
      = (outsAt0 m c (t.val - 1) (Nat.lt_of_le_of_lt (Nat.sub_le _ _) t.isLt)).2 j + part (grid0.coords t) (iblk m c 0 t) j := by
  by_cases h1 : t.val % 4 = 3
  · rw [outsAt0_C m c t h0 h1]; frame_out; rw [pay2_apply, read_unread_whole]
  · rw [outsAt0_B m c t h0 h1]; frame_out; rw [pay2_apply, read_unread_whole]

/-- An entry of the accumulator's first row. -/
theorem row_zero (l : Fin 128) :
    (Rect.unit (s := S8x128) ![0, 0] ![1, 128] inb_S8x128_S1x128_0_0).idx (ix2 0 l)
      = ix2 (0 : Fin 8) l := by
  funext a; refine Fin.ext ?_
  match a with
  | 0 => rfl
  | 1 => show 0 + 1 * l.val = l.val; omega

/-- An entry of the accumulator's second row. -/
theorem row_one (l : Fin 128) :
    (Rect.unit (s := S8x128) ![1, 0] ![1, 128] inb_S8x128_S1x128_1_0).idx (ix2 0 l)
      = ix2 (1 : Fin 8) l := by
  funext a; refine Fin.ext ?_
  match a with
  | 0 => rfl
  | 1 => show 0 + 1 * l.val = l.val; omega

/-- The quotient of the accumulator's first two rows. -/
theorem pay3_reads (P : Vec Ideal S8x128 .f32) :
    k0_pay3 (fun j => P ((Rect.unit (s := S8x128) ![0, 0] ![1, 128] inb_S8x128_S1x128_0_0).idx j))
        (fun j => P ((Rect.unit (s := S8x128) ![1, 0] ![1, 128] inb_S8x128_S1x128_1_0).idx j))
      = Ideal.div (∑ l : Fin 128, P (ix2 0 l)) (∑ l : Fin 128, P (ix2 1 l)) := by
  rw [pay3_apply]
  simp only [row_zero, row_one]

/-- What the last step writes: the quotient of the sums of the accumulator's two rows. -/
theorem out_last (c : Dev nD) (t : Fin cfg0.N) (h1 : t.val % 4 = 3) (j : S1x1.Idx) :
    (outsAt0 m c t.val t.isLt).1 j
      = Ideal.div (∑ l : Fin 128, (outsAt0 m c t.val t.isLt).2 (ix2 0 l))
          (∑ l : Fin 128, (outsAt0 m c t.val t.isLt).2 (ix2 1 l)) := by
  have h0 : ¬t.val % 4 = 0 := by omega
  rw [outsAt0_C m c t h0 h1]; frame_out
  rw [View.readCov_eq_canon', View.readCov_eq_canon', View.canon_cons_unit_lit' _ _ _ (by decide)]
  exact pay3_reads _

/-- After the last step the accumulator holds the sum of the blocks' parts. -/
theorem acc_sum (c : Dev nD) (j : S8x128.Idx) :
    (outsAt0 m c t0_3.val t0_3.isLt).2 j = ∑ p : Fin cfg0.N, part (grid0.coords p) (iblk m c 0 p) j := by
  rw [Pipeline.eq_sum_fin_of_reset_step_apply_last (fun n h => (outsAt0 m c n h).2) 4 (fun _ => 0)
    (fun p j => part (grid0.coords p) (iblk m c 0 p) j) (fun t h => fun j => acc_reset m c t h j)
    (fun t h => fun j => acc_step m c t h j) (le_of_eq N_0) t0_3 rfl j]
  rw [zero_add]

end Cert.KernelIdeal.Value

end
-- ==== Proof.Popcount.lean ====
module

public import Idealize.ShloMosaic.Lib.BitWord
public import Idealize.ShloMosaic.Lib.Pointwise

@[expose] public section

/-!
# Counting the bits of a packed word

A word is packed out of thirty-two flags by adding the flag times its power of two. The powers are distinct, so the
sum carries nothing, the word has exactly those bits, and its population count is the number of flags that are set.
-/

namespace Cert.Popcount

open Idealize.ShloMosaic

/-- A flag times one shifted left is that power of two, or nothing. -/
theorem flag_shift : ∀ (k : Fin 32) (e : BitVec 1),
    IntOp.muli (BitVec.setWidth 32 e) (IntOp.shli .host 1#32 (BitVec.ofNat 32 k.val))
      = if decide (e = 1#1) = true then BitVec.ofNat 32 (2 ^ k.val) else 0#32 := by
  decide +kernel

/-- Adding a power of two above every bit of the word sets that bit. -/
theorem bitWord_add (act : ℕ → Bool) (n : ℕ) (hn : n < 32) :
    Bits.bitWord act n + BitVec.ofNat 32 (2 ^ n) = Bits.bitWord act n ||| BitVec.ofNat 32 (2 ^ n) := by
  apply BitVec.add_eq_or_of_and_eq_zero
  apply BitVec.eq_of_getLsbD_eq
  intro i hi
  rw [BitVec.getLsbD_and, Bits.getLsbD_bitWord act n hn.le, BitVec.getLsbD_ofNat, BitVec.getLsbD_zero]
  by_cases h : i = n
  · subst h; simp
  · rw [Nat.testBit_two_pow_of_ne (Ne.symm h)]; simp

/-- The sum of the set flags' powers of two is the word of those flags. -/
theorem sum_eq_bitWord (act : ℕ → Bool) (n : ℕ) (hn : n ≤ 32) :
    ∑ k ∈ Finset.range n, (if act k = true then BitVec.ofNat 32 (2 ^ k) else 0#32) = Bits.bitWord act n := by
  induction n with
  | zero => rfl
  | succ n ih =>
    rw [Finset.sum_range_succ, ih (by omega)]
    show _ = if act n = true then _ else _
    split
    · exact bitWord_add act n (by omega)
    · exact add_zero _

/-- The number of set flags, counted one flag at a time. -/
theorem length_filter_range (act : ℕ → Bool) (n : ℕ) :
    ((List.range n).filter act).length = ∑ k ∈ Finset.range n, (if act k = true then 1 else 0) := by
  induction n with
  | zero => rfl
  | succ n ih =>
    rw [List.range_succ, List.filter_append, List.length_append, ih, Finset.sum_range_succ]
    cases h : act n <;> simp [h]

/-- One flag as a number. -/
theorem flag_toNat : ∀ e : BitVec 1, (if decide (e = 1#1) = true then 1 else 0) = e.toNat := by decide

/-- The population count of the word packed out of thirty-two flags is the sum of the flags. -/
theorem ctpop_packed (e : Fin 32 → BitVec 1) :
    (IntOp.ctpop (Finset.fold IntOp.addi (0#32)
      (fun k : Fin 32 => IntOp.muli (BitVec.setWidth 32 (e k)) (IntOp.shli .host 1#32 (BitVec.ofNat 32 k.val)))
      Finset.univ)).toNat = ∑ k : Fin 32, (e k).toNat := by
  let act : ℕ → Bool := fun k => if h : k < 32 then decide (e ⟨k, h⟩ = 1#1) else false
  have hact : ∀ k : Fin 32, act k.val = decide (e k = 1#1) := fun k => dif_pos k.isLt
  have hword : Finset.fold IntOp.addi (0#32)
      (fun k : Fin 32 => IntOp.muli (BitVec.setWidth 32 (e k)) (IntOp.shli .host 1#32 (BitVec.ofNat 32 k.val)))
      Finset.univ = Bits.bitWord act 32 := by
    rw [← sum_eq_bitWord act 32 le_rfl, ← Fin.sum_univ_eq_sum_range
      (fun k => if act k = true then BitVec.ofNat 32 (2 ^ k) else 0#32), Finset.sum_eq_fold]
    refine Finset.fold_congr fun k _ => ?_
    rw [flag_shift, hact]
  rw [hword, Bits.toNat_ctpop_bitWord act 32 le_rfl, length_filter_range,
    ← Fin.sum_univ_eq_sum_range (fun k => if act k = true then 1 else 0)]
  exact Finset.sum_congr rfl fun k _ => by rw [hact, flag_toNat]

/-- The count, read as a number of the extended reals. -/
theorem sitofp_ctpop_packed (e : Fin 32 → BitVec 1) :
    FloatOps.sitofp (F := Ideal) .f32 (IntOp.ctpop (Finset.fold IntOp.addi (0#32)
      (fun k : Fin 32 => IntOp.muli (BitVec.setWidth 32 (e k)) (IntOp.shli .host 1#32 (BitVec.ofNat 32 k.val)))
      Finset.univ)) = (((∑ k : Fin 32, ((e k).toNat : ℝ)) : ℝ) : EReal) := by
  have h := ctpop_packed e
  have hb : ∑ k : Fin 32, (e k).toNat ≤ 32 := by
    calc ∑ k : Fin 32, (e k).toNat ≤ ∑ _k : Fin 32, 1 := Finset.sum_le_sum fun k _ => by have := (e k).isLt; omega
      _ = 32 := by simp
  generalize IntOp.ctpop _ = w at h ⊢
  show (((w.toInt : ℝ)) : EReal) = _
  rw [BitVec.toInt_eq_toNat_of_lt (by omega), h]
  push_cast
  rfl

end Cert.Popcount

end
-- ==== Proof.KernelArray.lean ====
module

public import proofs.«01_k».proof.Proof.KernelValue
public import proofs.«01_k».proof.Proof.Popcount
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

/-!
# The kernel's result

The words the kernel is given are read off the operations before it, their population counts are the
numbers of events, and the four blocks together cover every row: the result is the loss.
-/

namespace Cert.KernelIdeal.Value

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The words the kernel packs: one bit per event, 32 neighbouring columns to a word. -/
def packed (ev : Vec Ideal S4096x4096 .i1) : Vec Ideal S4096x128 .i32 :=
  Host.reduce IntOp.addi
    (muli (extui 32 (shapeCast S4096x128x32 ev shapeCasts_S4096x4096_S4096x128x32) natLt_1_32)
      (broadcastInDim S4096x128x32 ![0, 1, 2] bcast_S1x1x32_S4096x128x32_0_1_2
        (shapeCast S1x1x32 (Host.shli (broadcastInDim S32 ![] bcast_S_S32 (constantI S_ 32 1#32)) (iotaInDim S32 32 0))
          shapeCasts_S32_S1x1x32)))
    (constantI S_ 32 0#32) reducesTo_S4096x128x32_S4096x128_d2 h_S_

/-- The array the kernel is launched on holds the packed words. -/
theorem V_main_v8 (c : Dev nD) : V m c main_v8 = packed (m ((c : Thread nD τ).loc main_arg2)) := by
  show StableHlo.after hostOps0 (fun b => m (c, b)) (Proc.devRef .tc main_v8) = _
  unfold hostOps0
  after_results
  rfl

/-- The event of a row and a column, as a number. -/
def event (ev : Vec Ideal S4096x4096 .i1) (r q : Fin 4096) : ℕ := BitVec.toNat (w := 1) (ev (ix2 r q))

/-- A word's column is a column of the square. -/
theorem column_lt (l : Fin 128) (b : Fin 32) : l.val * 32 + b.val < 4096 := by omega

/-- The population count of a packed word is the number of events in its 32 columns. -/
theorem count_packed (ev : Vec Ideal S4096x4096 .i1) (r : Fin 4096) (l : Fin 128) :
    FloatOps.sitofp (F := Ideal) .f32 (IntOp.ctpop (packed ev (ix2 r l)))
      = ((∑ b : Fin 32, (event ev r ⟨l.val * 32 + b.val, column_lt l b⟩ : ℝ) : ℝ) : EReal) := by
  pointwise [packed]
  exact Popcount.sitofp_ctpop_packed fun b : Fin 32 => ev (ix2 r ⟨l.val * 32 + b.val, column_lt l b⟩)

/-- The block a step reads is the step's own. -/
theorem block_index : ∀ t : Fin cfg0.N, win0_0.index t = ![t.val, 0] := (by decide +kernel : ∀ t : Fin grid0.N, _)
/-- A step's grid coordinate is its number. -/
theorem coord_val : ∀ t : Fin cfg0.N, (grid0.coords t 0).val = t.val := (by decide +kernel : ∀ t : Fin grid0.N, _)

/-- An entry of a step's block is an entry of the whole array. -/
theorem block_apply (c : Dev nD) (A : Buf (Elt Ideal) ((c : Thread nD τ).loc main_v8)) (t : Fin cfg0.N) (k : Fin 1024)
    (l : Fin 128) (h : t.val * 1024 + k.val < 4096) :
    View.read (Elt Ideal) ((cfg0.win 0).blk t).view A (ix2 k l)
      = A (ix2 ⟨t.val * 1024 + k.val, h⟩ l) := by
  blk_ext [block_index t]

/-- A step reads its block of the packed words. -/
theorem iblk_eq (c : Dev nD) (t : Fin cfg0.N) :
    iblk m c 0 t = View.read (Elt Ideal) ((cfg0.win 0).blk t).view (V m c main_v8) := rfl

/-- A block's row is a row of the square. -/
theorem row_lt (t : Fin cfg0.N) (k : Fin 1024) : t.val * 1024 + k.val < 4096 := by
  have := lt_of_lt_of_eq t.isLt N_0
  omega

/-- What the pipeline leaves in the kernel's result: the loss. -/
theorem result_eq (c : Dev nD) :
    (dats m 0 c).arrAt 1 cfg0.N = fun _ => Loss.loss (event (m ((c : Thread nD τ).loc main_arg2))) := by
  refine (dats m 0 c).arrAt_eq_of_after_last 1 t0_3 (by decide +kernel) _ fun j => ?_
  blk_simp
  rw [after0_1, out_last m c t0_3 rfl]
  simp only [acc_sum]
  set e := event (m ((c : Thread nD τ).loc main_arg2)) with he
  have hx : ∀ (p : Fin cfg0.N) (k : Fin 1024) (l : Fin 128),
      FloatOps.sitofp (F := Ideal) .f32 (IntOp.ctpop (iblk m c 0 p (ix2 k l)))
        = ((∑ b : Fin 32, (e ⟨p.val * 1024 + k.val, row_lt p k⟩ ⟨l.val * 32 + b.val, column_lt l b⟩ : ℝ) : ℝ) : EReal) := fun p k l => by
    rw [iblk_eq, block_apply c _ p k l (row_lt p k), V_main_v8, count_packed]
  have hcoord : ∀ (p : Fin cfg0.N) (k : Fin 1024), (grid0.coords p 0).val * 1024 + k.val < 4096 := fun p k => by
    rw [coord_val]; exact row_lt p k
  have hlog : ∀ (l : Fin 128) (p : Fin cfg0.N), part (grid0.coords p) (iblk m c 0 p) (ix2 0 l)
      = ((∑ k : Fin 1024, ∑ b : Fin 32, Loss.weight ⟨p.val * 1024 + k.val, row_lt p k⟩
          * (e ⟨p.val * 1024 + k.val, row_lt p k⟩ ⟨l.val * 32 + b.val, column_lt l b⟩ : ℝ) : ℝ) : EReal) := fun l p => by
    rw [part_log _ _ _ (hx p) (by rw [coord_val]; exact lt_of_lt_of_eq p.isLt N_0) (hcoord p) l]
    congr 1
    refine Finset.sum_congr rfl fun k _ => ?_
    rw [Finset.mul_sum]
    simp only [coord_val]
  have hone : ∀ (l : Fin 128) (p : Fin cfg0.N), part (grid0.coords p) (iblk m c 0 p) (ix2 1 l)
      = ((∑ k : Fin 1024, ∑ b : Fin 32,
          (e ⟨p.val * 1024 + k.val, row_lt p k⟩ ⟨l.val * 32 + b.val, column_lt l b⟩ : ℝ) : ℝ) : EReal) := fun l p =>
    part_one _ _ _ (hx p) l
  simp only [hlog, hone, ← Loss.coe_sum]
  rw [Loss.sum_blocks (fun r q => Loss.weight r * (e r q : ℝ)) N_0 row_lt column_lt,
    Loss.sum_blocks (fun r q => (e r q : ℝ)) N_0 row_lt column_lt]
  rfl

end Cert.KernelIdeal.Value

end
-- ==== Proof.KernelRun.lean ====
module

public import proofs.«01_k».proof.Proof.KernelArray

@[expose] public section

set_option maxRecDepth 16384

noncomputable section

/-!
# The kernel program's run

After the kernel the program only reshapes the kernel's one-entry array into a scalar.
-/

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ)

/-- No two of the kernel's arrays are the same. -/
theorem arrays_distinct : Function.Injective (Pipeline.arrRef (cfgs 0).spec) := by decide

/-- The kernel's array, read after the kernel. -/
theorem array_eq (c : Dev nD) (W : Valuation τ sig (Elt Ideal)) :
    Pipeline.withArrays (cfgs 0).spec c W (fun w => (dats m 0 c).arrAt w (cfgs 0).N) (Proc.devRef .tc main_v9)
      = fun _ => Loss.loss (event (m ((c : Thread nD τ).loc main_arg2))) :=
  (Pipeline.withArrays_arr (cfgs 0).spec arrays_distinct c W (fun w => (dats m 0 c).arrAt w (cfgs 0).N) 1).trans (result_eq m c)

/-- What the program's result holds at the end. -/
theorem tail_eq (c : Dev nD) :
    Pipeline.afterTail₀ cfgs (dats m) 0 (V0 m) [hostOps1] c main_v10
      = fun _ => Loss.loss (event (m ((c : Thread nD τ).loc main_arg2))) := by
  unfold Pipeline.afterTail₀
  show StableHlo.after hostOps1 _ (Proc.devRef .tc main_v10) = _
  unfold hostOps1
  after_results
  rw [array_eq]
  rfl

/-- Every run ends with the loss in the result and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v10) = (fun _ => Loss.loss (event (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v10 (Pipeline.mem_restRefs_of main_v10 (by decide) (by decide))).trans (tail_eq m c),
    h.2 c⟩) (θ_run_and (run_main m ρ) (unchanged m ρ))

end Cert.KernelIdeal.Value

end
-- ==== Proof.Sorted.lean ====
module

public import Idealize.ShloMosaic.PureOps
public import Idealize.ShloMosaic.Lib.Pointwise
public import Mathlib.Data.List.Pairwise

@[expose] public section

/-!
# A stable sort of what is already in order moves nothing

An insertion sort that finds no element strictly before an earlier one puts every element back where it was, so the
position a sorted column reads is the position itself, ties included.
-/

namespace Cert.Sorted

open Idealize.ShloMosaic

/-- An insertion in front of a list none of whose elements comes before the new one. -/
theorem insertBefore_front {ι : Type} (before : ι → ι → Bool) (a : ι) (l : List ι) (h : ∀ b ∈ l, before b a = false) :
    insertBefore before a l = a :: l := by
  cases l with
  | nil => rfl
  | cons b l =>
    unfold insertBefore
    rw [h b List.mem_cons_self]
    rfl

/-- The stable sort of a list in order is the list. -/
theorem stableSort_of_pairwise {ι : Type} (before : ι → ι → Bool) (l : List ι)
    (h : l.Pairwise fun a b => before b a = false) : stableSort before l = l := by
  induction l with
  | nil => rfl
  | cons a l ih =>
    rw [List.pairwise_cons] at h
    unfold stableSort
    rw [ih h.2, insertBefore_front before a l h.1]

/-- The positions of a column in order, read off in order, are themselves. -/
theorem sortedFrom_self {n : ℕ} (before : Fin n → Fin n → Bool) (h : ∀ a b, a < b → before b a = false) (k : Fin n) :
    sortedFrom before k = k := by
  have hs : sortPositions n before = List.finRange n :=
    stableSort_of_pairwise before _ ((List.pairwise_lt_finRange n).imp fun hab => h _ _ hab)
  unfold sortedFrom
  rw [List.get_eq_getElem]
  simp only [hs]
  simp

/-- A two-operand sort along an axis whose fibers are in order leaves the second operand as it is. -/
theorem sort2_snd_self {α β : Type} (s : Shape) (d : ℕ) (hd : d < s.rank) (cmp : α × β → α × β → BitVec 1)
    (x : s.Idx → α) (y : s.Idx → β)
    (h : ∀ (j : s.Idx) (k k' : Fin (s.size ⟨d, hd⟩)), k < k' →
      cmp (x (j.along ⟨d, hd⟩ k'), y (j.along ⟨d, hd⟩ k')) (x (j.along ⟨d, hd⟩ k), y (j.along ⟨d, hd⟩ k)) = 0#1) :
    (Host.sort2 s d cmp x y).2 = y := by
  unfold Host.sort2
  rw [dif_pos hd]
  funext j
  show y (j.along ⟨d, hd⟩ (sortedFrom _ (j ⟨d, hd⟩))) = y j
  rw [sortedFrom_self _ (fun k k' hk => by rw [h j k k' hk]; rfl)]
  exact congrArg y (Function.update_eq_self _ _)

end Cert.Sorted

end
-- ==== Proof.RefOrder.lean ====
module

public import proofs.«01_k».proof.Proof.Gen.ReferenceIdeal
public import proofs.«01_k».proof.Proof.Sorted
public import Idealize.ShloMosaic.Lib.ReduceAll

@[expose] public section

set_option maxRecDepth 16384

noncomputable section

/-!
# Putting the columns in the order of their times

Where every column of times is in order already, the order is the identity: the gathers by it read the element's own
place, and every position is in range.
-/

namespace Cert.ReferenceIdeal.Value

open Cert.ReferenceIdeal Cert.ReferenceIdeal.Gen
open Idealize.ShloMosaic Idealize.ShloMosaic.TcCoe

/-- The columns' stable order. -/
def order (y : Vec Ideal S4096x4096 .f32) : Vec Ideal S4096x4096 .i32 :=
  (Host.sort2 S4096x4096 0 (comparator_f32_i32_d0 (F := Ideal)) y (iotaInDim S4096x4096 32 0)).2

/-- The order as a table of positions, a negative one counted from the end. -/
def starts (o : Vec Ideal S4096x4096 .i32) : Vec Ideal S4096x4096x1 .i32 :=
  shapeCast S4096x4096x1
    (select (cmpi .slt o (broadcastInDim S4096x4096 ![] bcast_S_S4096x4096 (constantI S_ 32 0#32)))
      (addi o (broadcastInDim S4096x4096 ![] bcast_S_S4096x4096 (constantI S_ 32 4096#32))) o)
    shapeCasts_S4096x4096_S4096x4096x1

/-- Which positions of a table are in range. -/
def inRange (p : Vec Ideal S4096x4096x1 .i32) : Vec Ideal S4096x4096 .i1 :=
  Host.reduce IntOp.andi
    (andi (cmpi .sge p (broadcastInDim S4096x4096x1 ![] bcast_S_S4096x4096x1 (constantI S_ 32 0#32)))
      (cmpi .sle p (broadcastInDim S4096x4096x1 ![0, 1, 2] bcast_S1x1x1_S4096x4096x1_0_1_2
        (broadcastInDim S1x1x1 ![2] bcast_S1_S1x1x1_2 (constantI S1 32 4095#32)))))
    (constantI S_ 1 1#1) reducesTo_S4096x4096x1_S4096x4096_d2 h_S_

/-- The numbers of `x` at the positions of a table, column by column. -/
def takeF (p : Vec Ideal S4096x4096x1 .i32) (x : Vec Ideal S4096x4096 .f32) : Vec Ideal S4096x4096 .f32 :=
  select (inRange p) (Host.gather gather_S4096x4096_S4096x4096x1_S4096x4096_n_0_1_1_0_2_11 x p)
    (broadcastInDim S4096x4096 ![] bcast_S_S4096x4096 (constant (F := Ideal) S_ .f32 0x7FC00000#32))

/-- The flags of `x` at the positions of a table, column by column. -/
def takeI (p : Vec Ideal S4096x4096x1 .i32) (x : Vec Ideal S4096x4096 .i1) : Vec Ideal S4096x4096 .i1 :=
  select (inRange p) (Host.gather gather_S4096x4096_S4096x4096x1_S4096x4096_n_0_1_1_0_2_11 x p)
    (broadcastInDim S4096x4096 ![] bcast_S_S4096x4096 (constantI S_ 1 1#1))

/-- The sort's comparison says "before" only where the first number is the smaller. -/
theorem comparator_of_le (l r : Ideal .f32 × BitVec 32) (h : r.1 ≤ l.1) :
    comparator_f32_i32_d0 (F := Ideal) l r = 0#1 := by
  have hne : ∀ x : Ideal .f32, FloatOps.cmpf (F := Ideal) (φ := .f32) .une x x = 0#1 := fun x => by
    show BitVec.ofBool (decide (x ≠ x)) = 0#1
    simp
  have hz : ∀ x : Ideal .f32, Scalar.select (FloatOps.cmpf (F := Ideal) (φ := .f32) .oeq x (FloatOps.ofBits .f32 0x00000000#32))
      (FloatOps.ofBits (F := Ideal) .f32 0x00000000#32) x = x := fun x => by
    generalize FloatOps.ofBits (F := Ideal) .f32 0x00000000#32 = z
    show (if BitVec.ofBool (decide (x = z)) = 1#1 then z else x) = x
    by_cases hx : x = z
    · subst hx; exact ite_self _
    · rw [decide_eq_false hx]; rfl
  unfold comparator_f32_i32_d0
  simp only [hne, hz, show ∀ a b : Ideal .f32, Scalar.select (0#1) a b = b from fun _ _ => rfl]
  show BitVec.ofBool (decide (l.1 < r.1)) = 0#1
  rw [decide_eq_false (not_lt.mpr h)]
  rfl

/-- The order of columns already in order. -/
theorem order_eq (y : Vec Ideal S4096x4096 .f32)
    (h : ∀ (q r r' : Fin 4096), r ≤ r' → (y (ix2 r q) : EReal) ≤ y (ix2 r' q)) :
    order y = iotaInDim S4096x4096 32 0 := by
  refine Sorted.sort2_snd_self S4096x4096 0 (by decide) _ y _ fun j k k' hk => ?_
  refine comparator_of_le _ _ ?_
  have e : ∀ k : Fin 4096, Function.update (β := fun a => Fin (S4096x4096.size a)) j 0 k = ix2 k (j 1) := fun k => by
    funext a
    match a with
    | 0 => exact Function.update_self _ _ _
    | 1 => exact Function.update_of_ne (show (1 : Fin 2) ≠ 0 by decide) _ _
  show (y (Function.update (β := fun a => Fin (S4096x4096.size a)) j 0 k) : EReal)
    ≤ y (Function.update (β := fun a => Fin (S4096x4096.size a)) j 0 k')
  rw [e k, e k']
  exact h _ _ _ hk.le

/-- The position of a row in the table of the identity order. -/
theorem starts_iota (i : S4096x4096x1.Idx) :
    starts (iotaInDim S4096x4096 32 0) i = BitVec.ofNat 32 (i 0).val := by
  idx_vars i
  pointwise [starts]
  have h : ∀ k : Fin 4096, IntOp.cmpi .slt (BitVec.ofNat 32 k.val) 0#32 = 0#1 := by decide +kernel
  rw [h]
  rfl

/-- Every position of the identity order is in range. -/
theorem inRange_iota (j : S4096x4096.Idx) : inRange (starts (iotaInDim S4096x4096 32 0)) j = 1#1 := by
  unfold inRange
  refine Host.reduce_andi_one _ _ _ _ _ rfl fun i => ?_
  show IntOp.andi (IntOp.cmpi .sge (starts _ i) 0#32) (IntOp.cmpi .sle (starts _ i) 4095#32) = 1#1
  rw [starts_iota]
  have h : ∀ k : Fin 4096, IntOp.andi (IntOp.cmpi .sge (BitVec.ofNat 32 k.val) 0#32)
      (IntOp.cmpi .sle (BitVec.ofNat 32 k.val) 4095#32) = 1#1 := by decide +kernel
  exact h (i 0)

/-- Gathering by the identity order reads every element's own place. -/
theorem gather_iota {α : Type} (x : S4096x4096.Idx → α) :
    Host.gather gather_S4096x4096_S4096x4096x1_S4096x4096_n_0_1_1_0_2_11 x (starts (iotaInDim S4096x4096 32 0)) = x := by
  funext j
  unfold Host.gather
  congr 1
  funext a
  apply Fin.ext
  set d := gather_S4096x4096_S4096x4096x1_S4096x4096_n_0_1_1_0_2_11
  match a with
  | 0 =>
    have hs : ∀ c, ((d.siIdx j c) 0).val = (j 0).val := fun c => rfl
    have hb : d.batchCoord j 0 = 0 := rfl
    have ho : d.offCoord j 0 = 0 := rfl
    have hj : (j 0).val < 4096 := (j 0).isLt
    show d.start j _ 0 + d.batchCoord j 0 + d.offCoord j 0 = (j 0).val
    rw [hb, ho]
    unfold GatherDims.start
    rw [dif_pos (by decide), starts_iota, hs, BitVec.toInt_eq_toNat_of_lt (by rw [BitVec.toNat_ofNat]; omega), BitVec.toNat_ofNat]
    show min _ 4095 + 0 + 0 = _
    omega
  | 1 =>
    have ht : d.start j (starts (iotaInDim S4096x4096 32 0)) 1 = 0 := rfl
    have hb : d.batchCoord j 1 = (j 1).val := rfl
    have ho : d.offCoord j 1 = 0 := rfl
    show d.start j _ 1 + d.batchCoord j 1 + d.offCoord j 1 = (j 1).val
    rw [ht, hb, ho]
    omega

/-- A selection by flags that are all set. -/
theorem select_ones {α : Type} (b : S4096x4096.Idx → BitVec 1) (x z : S4096x4096.Idx → α) (h : ∀ j, b j = 1#1) :
    select b x z = x := by
  funext j
  show Scalar.select (b j) (x j) (z j) = x j
  rw [h]
  rfl

/-- The numbers in the identity order. -/
theorem takeF_iota (x : Vec Ideal S4096x4096 .f32) : takeF (starts (iotaInDim S4096x4096 32 0)) x = x := by
  unfold takeF
  rw [gather_iota]
  exact select_ones _ _ _ inRange_iota

/-- The flags in the identity order. -/
theorem takeI_iota (x : Vec Ideal S4096x4096 .i1) : takeI (starts (iotaInDim S4096x4096 32 0)) x = x := by
  unfold takeI
  rw [gather_iota]
  exact select_ones _ _ _ inRange_iota

end Cert.ReferenceIdeal.Value

end
-- ==== Proof.Window.lean ====
module

public import Idealize.ShloMosaic.PureOps
public import Idealize.ShloMosaic.Lib.Pointwise
public import proofs.«01_k».proof.Proof.Loss

@[expose] public section

/-!
# The running sum down a level column

A window of the column's whole length, padded below by all but one of its rows, adds up everything from the first row
to the current one. Down a column with the same value in every row that is the number of rows so far times the value.
-/

namespace Cert.Window

open Idealize.ShloMosaic

/-- A running total is its starting value and the sum of what is added. -/
theorem foldl_add {M : Type} [AddCommMonoid M] (N : ℕ) (g : Fin N → M) (v : M) :
    (List.finRange N).foldl (fun r n => r + g n) v = v + ∑ n : Fin N, g n := by
  have h : ∀ (l : List (Fin N)) (v : M), l.foldl (fun r n => r + g n) v = v + (l.map g).sum := by
    intro l
    induction l with
    | nil => intro v; simp
    | cons a l ih => intro v; rw [List.foldl_cons, ih, List.map_cons, List.sum_cons, add_assoc]
  rw [h, ← List.sum_ofFn, List.ofFn_eq_map]

/-- Of 4096 window rows ending at row `i`, the last `i + 1` lie on the column. -/
theorem card_rows (i : ℕ) (hi : i < 4096) :
    ∑ k : Fin 4096, (if 4095 ≤ i + k.val then (1 : ℝ) else 0) = (i : ℝ) + 1 := by
  rw [Fin.sum_univ_eq_sum_range (fun k => if 4095 ≤ i + k then (1 : ℝ) else 0) 4096, ← Finset.sum_filter, Finset.sum_const]
  have h : (Finset.range 4096).filter (fun k => 4095 ≤ i + k) = Finset.Ico (4095 - i) 4096 := by
    ext k
    simp only [Finset.mem_filter, Finset.mem_range, Finset.mem_Ico]
    omega
  rw [h, Nat.card_Ico, nsmul_eq_mul, mul_one]
  have : 4096 - (4095 - i) = i + 1 := by omega
  rw [this]
  push_cast
  rfl

/-- Adding one value up over those rows gives `i + 1` times the value. -/
theorem sum_rows (i : ℕ) (hi : i < 4096) (v : ℝ) :
    ∑ k : Fin 4096, (if 4095 ≤ i + k.val then v else 0) = ((i : ℝ) + 1) * v := by
  rw [← card_rows i hi, Finset.sum_mul]
  refine Finset.sum_congr rfl fun k _ => ?_
  rw [ite_mul, one_mul, zero_mul]

/-- The running sum at row `i` of column `q`, when the array's value depends on the column alone. -/
theorem reduceWindowAdd_level (v : Fin 4096 → ℝ) (x : FVec Ideal ⟨2, ![4096, 4096]⟩ .f32) (init : (⟨0, ![]⟩ : Shape).Idx → Ideal .f32)
    (h : (⟨2, ![4096, 4096]⟩ : Shape).ReduceWindows ![4096, 1] ![1, 1] ![4095, 0] ![0, 0] ⟨2, ![4096, 4096]⟩)
    (hu : 0 < (⟨0, ![]⟩ : Shape).numel) (hx : ∀ j, x j = (v (j 1) : EReal)) (hi : ∀ j, init j = (0 : EReal)) (i q : Fin 4096) :
    Host.reduceWindowAdd (F := Ideal) ![4096, 1] ![1, 1] ![4095, 0] ![0, 0] x init h hu (ix2 i q)
      = ((((i.val : ℝ) + 1) * v q : ℝ) : EReal) := by
  unfold Host.reduceWindowAdd
  rw [Ideal.hostReduceWindowAdd_def]
  unfold Ideal.hostReduceWindowAdd
  unfold Host.reduceWindow
  simp only [hx, hi]
  rw [foldl_add, zero_add]
  let W : Shape := ⟨2, ![4096, 1]⟩
  let g : W.Idx → EReal := fun w => ((if 4095 ≤ i.val + (w 0).val then v q else 0 : ℝ) : EReal)
  have hg : ∑ w : W.Idx, g w = ((((i.val : ℝ) + 1) * v q : ℝ) : EReal) := by
    rw [sum_idx2, ← sum_rows i.val i.isLt, Loss.coe_sum]
    exact Finset.sum_congr rfl fun k _ => Fin.sum_univ_one _
  rw [← hg, ← Equiv.sum_comp W.rowMajor.symm g]
  refine Finset.sum_congr rfl fun n _ => ?_
  have h0 : (W.rowMajor.symm n 0).val < 4096 := (W.rowMajor.symm n 0).isLt
  have h1 : (W.rowMajor.symm n 1).val < 1 := (W.rowMajor.symm n 1).isLt
  have hii := i.isLt
  have hqq := q.isLt
  show _ = ((if 4095 ≤ i.val + (W.rowMajor.symm n 0).val then v q else 0 : ℝ) : EReal)
  simp only [Fin.forall_fin_two]
  by_cases hc : 4095 ≤ i.val + (W.rowMajor.symm n 0).val
  · rw [dif_pos, if_pos hc]
    · refine congrArg (fun p : Fin 4096 => (v p : EReal)) (Fin.ext ?_)
      show q.val * 1 + (W.rowMajor.symm n 1).val - 0 = q.val
      omega
    · show (4095 ≤ i.val * 1 + (W.rowMajor.symm n 0).val ∧ i.val * 1 + (W.rowMajor.symm n 0).val - 4095 < 4096)
        ∧ 0 ≤ q.val * 1 + (W.rowMajor.symm n 1).val ∧ q.val * 1 + (W.rowMajor.symm n 1).val - 0 < 4096
      omega
  · rw [dif_neg, if_neg hc]
    · rfl
    · intro hcc
      have h4 : 4095 ≤ i.val * 1 + (W.rowMajor.symm n 0).val := hcc.1.1
      omega

end Cert.Window

end
-- ==== Proof.RefValue.lean ====
module

public import proofs.«01_k».proof.Proof.Gen.ReferenceIdeal.Run
public import proofs.«01_k».proof.Proof.RefOrder
public import proofs.«01_k».proof.Proof.Window
public import proofs.«01_k».proof.Proof.Loss

@[expose] public section

set_option maxRecDepth 16384

noncomputable section

/-!
# What the reference computes at level scores and times in order
-/

namespace Cert.ReferenceIdeal.Value

open Cert.ReferenceIdeal Cert.ReferenceIdeal.Gen
open Idealize.ShloMosaic Idealize.ShloMosaic.TcCoe

/-- The first coefficient of every row, laid along the columns. -/
def coef0 (x : Vec Ideal S4096x4096 .f32) : Vec Ideal S4096x4096 .f32 :=
  broadcastInDim S4096x4096 ![0, 1] bcast_S1x4096_S4096x4096_0_1 (broadcastInDim S1x4096 ![1] bcast_S4096_S1x4096_1
    (shapeCast S4096 (extractStridedSlice S4096x1 ![0, 0] x slices_S4096x4096_S4096x1_0_0) shapeCasts_S4096x1_S4096))

/-- The second coefficient of every row, laid along the columns. -/
def coef1 (x : Vec Ideal S4096x4096 .f32) : Vec Ideal S4096x4096 .f32 :=
  broadcastInDim S4096x4096 ![0, 1] bcast_S1x4096_S4096x4096_0_1 (broadcastInDim S1x4096 ![1] bcast_S4096_S1x4096_1
    (shapeCast S4096 (extractStridedSlice S4096x1 ![0, 1] x slices_S4096x4096_S4096x1_0_1) shapeCasts_S4096x1_S4096))

/-- The third coefficient of every row, laid along the columns. -/
def coef2 (x : Vec Ideal S4096x4096 .f32) : Vec Ideal S4096x4096 .f32 :=
  broadcastInDim S4096x4096 ![0, 1] bcast_S1x4096_S4096x4096_0_1 (broadcastInDim S1x4096 ![1] bcast_S4096_S1x4096_1
    (shapeCast S4096 (extractStridedSlice S4096x1 ![0, 2] x slices_S4096x4096_S4096x1_0_2) shapeCasts_S4096x1_S4096))

/-- The log hazards. -/
def score (x y : Vec Ideal S4096x4096 .f32) : Vec Ideal S4096x4096 .f32 :=
  addf (F := Ideal) (addf (F := Ideal) (coef0 x) (mulf (F := Ideal) (coef1 x) y))
    (Host.divf (F := Ideal) (coef2 x)
      (addf (F := Ideal) y (broadcastInDim S4096x4096 ![] bcast_S_S4096x4096 (constant (F := Ideal) S_ .f32 0x33D6BF95#32))))

/-- The risk sets' sums: the hazards summed from each row to the last. -/
def atRisk (s : Vec Ideal S4096x4096 .f32) : Vec Ideal S4096x4096 .f32 :=
  Host.reverse [1, 0] (Host.reduceWindowAdd (F := Ideal) ![4096, 1] ![1, 1] ![4095, 0] ![0, 0]
    (Host.reverse [1, 0] (Host.exp (F := Ideal) s))
    (broadcastInDim S_ ![] bcast_S_S_ (constant (F := Ideal) S_ .f32 0x00000000#32))
    reduceWindows_S4096x4096_S4096x4096_w4096s1p4095_0_w1s1p0_0 h_S_)

/-- The events counted: those before the censoring time. -/
def observed (y : Vec Ideal S4096x4096 .f32) (e : Vec Ideal S4096x4096 .i1) : Vec Ideal S4096x4096 .i1 :=
  andi (cmpf (F := Ideal) (φ := .f32) .olt y
    (broadcastInDim S4096x4096 ![] bcast_S_S4096x4096 (constant (F := Ideal) S_ .f32 0x4E6E6B28#32))) e

/-- The loss of scores `s`, risk sets' sums `a` and counted events `e`. -/
def lossOf (s a : Vec Ideal S4096x4096 .f32) (e : Vec Ideal S4096x4096 .i1) : Vec Ideal S_ .f32 :=
  Host.divf (F := Ideal)
    (Host.negf (F := Ideal) (Host.reduceAdd (F := Ideal)
      (mulf (F := Ideal) (subf (F := Ideal) s (Host.log (F := Ideal) a)) (uitofp (F := Ideal) .f32 e))
      (constant (F := Ideal) S_ .f32 0x00000000#32) reducesTo_S4096x4096_S_d0_1 h_S_))
    (Host.reduceAdd (F := Ideal) (uitofp (F := Ideal) .f32 e)
      (constant (F := Ideal) S_ .f32 0x00000000#32) reducesTo_S4096x4096_S_d0_1 h_S_)

/-- The loss of scores and times in order. -/
def orderedLoss (x y : Vec Ideal S4096x4096 .f32) (e : Vec Ideal S4096x4096 .i1) : Vec Ideal S_ .f32 :=
  lossOf (score x y) (atRisk (score x y)) (observed y e)

set_option maxHeartbeats 2000000 in
/-- The reference is the ordered loss of its three arguments put in order. -/
theorem result_ordered (m : (ℓ : Loc nD τ sig) → Buf (Elt Ideal) ℓ) (c : Dev nD) :
    res_main_v37 m c = orderedLoss
      (takeF (starts (order (m ((c.tc : Thread nD τ).loc main_arg1)))) (m ((c.tc : Thread nD τ).loc main_arg0)))
      (takeF (starts (order (m ((c.tc : Thread nD τ).loc main_arg1)))) (m ((c.tc : Thread nD τ).loc main_arg1)))
      (takeI (starts (order (m ((c.tc : Thread nD τ).loc main_arg1)))) (m ((c.tc : Thread nD τ).loc main_arg2))) := by
  rfl

/-- Where the second and third coefficients are zero, the log hazards of a column are its first coefficient. -/
theorem score_level (x y : Vec Ideal S4096x4096 .f32) (c : Fin 4096 → ℝ)
    (hx0 : ∀ r : Fin 4096, x (ix2 r (0 : Fin 4096)) = (c r : EReal)) (hx1 : ∀ r : Fin 4096, x (ix2 r (1 : Fin 4096)) = (0 : EReal))
    (hx2 : ∀ r : Fin 4096, x (ix2 r (2 : Fin 4096)) = (0 : EReal))
    (hy : ∀ j, (y j : EReal) + Ideal.ofBits .f32 0x33D6BF95#32 ≠ 0) (j : S4096x4096.Idx) :
    score x y j = (c (j 1) : EReal) := by
  idx_vars j
  pointwise [score, coef0, coef1, coef2]
  rw [hx0, hx1, hx2, Ideal.div, if_neg (hy _), zero_mul, zero_mul, add_zero, add_zero]

/-- The risk set of row `r` sums to the number of rows from `r` on times the column's hazard. -/
theorem atRisk_level (s : Vec Ideal S4096x4096 .f32) (c : Fin 4096 → ℝ) (hs : ∀ j, s j = (c (j 1) : EReal)) (r q : Fin 4096) :
    atRisk s (ix2 r q) = (((4096 - (r.val : ℝ)) * Real.exp (c q) : ℝ) : EReal) := by
  have h1 : ∀ j : S4096x4096.Idx, Host.reverse (s := S4096x4096) [1, 0] (Host.exp (F := Ideal) (φ := .f32) s) j
      = ((fun p : Fin 4096 => Real.exp (c p.rev)) (j 1) : EReal) := fun j => by
    show Ideal.exp (s _) = _
    rw [hs, Ideal.exp_coe]
    rfl
  have h0 : ∀ j, broadcastInDim S_ ![] bcast_S_S_ (constant (F := Ideal) S_ .f32 0x00000000#32) j = (0 : EReal) := fun j =>
    Ideal.ofBits_zero_f32
  have hr : ∀ (z : S4096x4096.Idx → EReal), Host.reverse (s := S4096x4096) [1, 0] z (ix2 r q) = z (ix2 r.rev q.rev) := fun z => by
    unfold Host.reverse
    congr 1
    funext a
    match a with
    | 0 => rfl
    | 1 => rfl
  unfold atRisk
  rw [hr]
  refine (Window.reduceWindowAdd_level (fun p => Real.exp (c p.rev)) _ _ _ _ h1 h0 _ _).trans ?_
  congr 1
  rw [Fin.val_rev, Fin.rev_rev, Nat.cast_sub (by omega)]
  push_cast
  ring

/-- An event is counted when it happens, no event's time reaching the censoring time. -/
theorem observed_eq (y : Vec Ideal S4096x4096 .f32) (e : Vec Ideal S4096x4096 .i1)
    (hy : ∀ j, (y j : EReal) < Ideal.ofBits .f32 0x4E6E6B28#32 ∨ e j = 0#1) : observed y e = e := by
  funext j
  show IntOp.andi (BitVec.ofBool (decide ((y j : EReal) < Ideal.ofBits .f32 0x4E6E6B28#32))) (e j) = e j
  rcases hy j with h | h
  · rw [decide_eq_true h]
    have h1 : ∀ b : BitVec 1, IntOp.andi (BitVec.ofBool true) b = b := by decide
    exact h1 _
  · rw [h]
    have h2 : ∀ b : Bool, IntOp.andi (BitVec.ofBool b) (0#1) = 0#1 := by decide
    exact h2 _

/-- The sum of everything in a square, row by row. -/
theorem sum_all (x : FVec Ideal S4096x4096 .f32) (j : S_.Idx) :
    Host.reduceAdd (F := Ideal) x (constant (F := Ideal) S_ .f32 0x00000000#32) reducesTo_S4096x4096_S_d0_1 h_S_ j
      = ∑ r : Fin 4096, ∑ q : Fin 4096, (x (ix2 r q) : EReal) := by
  pointwise []

/-- A quotient of a negated array, read at an entry. -/
theorem neg_quotient_apply (u v : FVec Ideal S_ .f32) (j : S_.Idx) :
    Host.divf (F := Ideal) (Host.negf (F := Ideal) u) v j = Ideal.div (-(u j : EReal)) (v j) := rfl

/-- One term of the weighted sum, read at an entry. -/
theorem term_apply (s a : Vec Ideal S4096x4096 .f32) (e : Vec Ideal S4096x4096 .i1) (i : S4096x4096.Idx) :
    (mulf (F := Ideal) (φ := .f32) (subf (F := Ideal) (φ := .f32) s (Host.log (F := Ideal) (φ := .f32) a)) (uitofp (F := Ideal) .f32 e) i : EReal)
      = ((s i : EReal) - Ideal.log (a i)) * FloatOps.uitofp (F := Ideal) .f32 (e i) := rfl

/-- The loss with the two sums written out. -/
theorem lossOf_apply (s a : Vec Ideal S4096x4096 .f32) (e : Vec Ideal S4096x4096 .i1) (j : S_.Idx) :
    lossOf s a e j = Ideal.div (-∑ r : Fin 4096, ∑ q : Fin 4096, ((s (ix2 r q) : EReal) - Ideal.log (a (ix2 r q)))
        * FloatOps.uitofp (F := Ideal) .f32 (e (ix2 r q)))
      (∑ r : Fin 4096, ∑ q : Fin 4096, (FloatOps.uitofp (F := Ideal) .f32 (e (ix2 r q)) : EReal)) := by
  unfold lossOf
  rw [neg_quotient_apply, sum_all, sum_all]
  exact congrArg₂ Ideal.div (congrArg Neg.neg (Finset.sum_congr rfl fun r _ => Finset.sum_congr rfl fun q _ => term_apply s a e _))
    (Finset.sum_congr rfl fun r _ => Finset.sum_congr rfl fun q _ => rfl)

/-- The loss at scores level down every column: the number both programs compute. -/
theorem lossOf_level (s a : Vec Ideal S4096x4096 .f32) (e : Vec Ideal S4096x4096 .i1) (c : Fin 4096 → ℝ)
    (hs : ∀ j, s j = (c (j 1) : EReal))
    (ha : ∀ r q : Fin 4096, (a (ix2 r q) : EReal) = (((4096 - (r.val : ℝ)) * Real.exp (c q) : ℝ) : EReal)) (j : S_.Idx) :
    lossOf s a e j = Loss.loss fun r q => BitVec.toNat (w := 1) (e (ix2 r q)) := by
  rw [lossOf_apply]
  have hterm : ∀ r q : Fin 4096, ((s (ix2 r q) : EReal) - Ideal.log (a (ix2 r q))) * FloatOps.uitofp (F := Ideal) .f32 (e (ix2 r q))
      = ((-(Loss.weight r * ((BitVec.toNat (w := 1) (e (ix2 r q)) : ℕ) : ℝ)) : ℝ) : EReal) := fun r q => by
    have h := Loss.sub_log_level r (c q)
    rw [hs, ha]
    show ((c q : EReal) - _) * ((((BitVec.toNat (w := 1) (e (ix2 r q)) : ℕ) : ℝ)) : EReal) = _
    rw [h, ← EReal.coe_mul, neg_mul]
  have hone : ∀ r q : Fin 4096, (FloatOps.uitofp (F := Ideal) .f32 (e (ix2 r q)) : EReal)
      = ((((BitVec.toNat (w := 1) (e (ix2 r q)) : ℕ) : ℝ)) : EReal) := fun r q => rfl
  have hnum : ∑ r : Fin 4096, ∑ q : Fin 4096, ((s (ix2 r q) : EReal) - Ideal.log (a (ix2 r q))) * FloatOps.uitofp (F := Ideal) .f32 (e (ix2 r q))
      = ((-Loss.weighted (fun r q => BitVec.toNat (w := 1) (e (ix2 r q))) : ℝ) : EReal) := by
    unfold Loss.weighted
    simp only [← Finset.sum_neg_distrib, Loss.coe_sum]
    exact Finset.sum_congr rfl fun r _ => Finset.sum_congr rfl fun q _ => hterm r q
  have hden : ∑ r : Fin 4096, ∑ q : Fin 4096, (FloatOps.uitofp (F := Ideal) .f32 (e (ix2 r q)) : EReal)
      = (Loss.count (fun r q => BitVec.toNat (w := 1) (e (ix2 r q))) : EReal) := by
    unfold Loss.count
    simp only [Loss.coe_sum]
    exact Finset.sum_congr rfl fun r _ => Finset.sum_congr rfl fun q _ => hone r q
  rw [hnum, hden, ← EReal.coe_neg, neg_neg]
  rfl

/-- The ordered loss at level scores is the number both programs compute. -/
theorem orderedLoss_eq (x y : Vec Ideal S4096x4096 .f32) (e : Vec Ideal S4096x4096 .i1) (c : Fin 4096 → ℝ)
    (hs : ∀ j, score x y j = (c (j 1) : EReal))
    (hy : ∀ j, (y j : EReal) < Ideal.ofBits .f32 0x4E6E6B28#32 ∨ e j = 0#1) (j : S_.Idx) :
    orderedLoss x y e j = Loss.loss fun r q => BitVec.toNat (w := 1) (e (ix2 r q)) := by
  unfold orderedLoss
  rw [observed_eq y e hy]
  exact lossOf_level _ _ e c hs (fun r q => atRisk_level _ c hs r q) j

end Cert.ReferenceIdeal.Value

end
-- ==== Proof.Precondition.lean ====
module

public import proofs.«01_k».proof.Proof.Gen.Pre_ordered_times_level_scores
public import Idealize.ShloMosaic.Lib.ReduceAll
public import Idealize.ShloMosaic.Lib.Pointwise
public import Idealize.ShloMosaic.Lib.Claim

@[expose] public section

set_option maxRecDepth 16384

noncomputable section

/-!
# The precondition, read back

The precondition is one bit: the conjunction of six bits, each saying that a comparison holds at
every entry of an array. Each of the six is turned into a statement about the entries.
-/

namespace Cert.Pre_ordered_times_level_scores.Read

open Cert.Pre_ordered_times_level_scores Cert.Pre_ordered_times_level_scores.Gen
open Idealize.ShloMosaic

/-- A conjunction of two bits is 1 only when both are. -/
theorem both {a b : BitVec 1} (h : IntOp.andi a b = 1#1) : a = 1#1 ∧ b = 1#1 := IntOp.andi_eq_one.1 h

/-- A decided bit is 1 only when the proposition holds. -/
theorem holds_of_bit {p : Prop} [Decidable p] (h : BitVec.ofBool (decide p) = 1#1) : p := by
  by_contra hp
  rw [decide_eq_false hp] at h
  exact absurd h (by decide)

/-- There is one index of a scalar. -/
instance : Subsingleton S_.Idx := ⟨fun _ _ => funext fun a => a.elim0⟩

/-- The six bits the precondition is made of, over the bits of their entries. -/
theorem split (x y : FVec Ideal S4096x4096 .f32) (e : IVec S4096x4096 1) (h : fn (F := Ideal) x y e = fun _ => 1#1) :
    (∀ i, cmpf (F := Ideal) (φ := .f32) .ogt (extractStridedSlice S4096x1 ![0, 0] x slices_S4096x4096_S4096x1_0_0)
        (broadcastInDim S4096x1 ![] bcast_S_S4096x1 (constant (F := Ideal) S_ .f32 0xFF800000#32)) i = 1#1)
      ∧ (∀ i, cmpf (F := Ideal) (φ := .f32) .olt (extractStridedSlice S4096x1 ![0, 0] x slices_S4096x4096_S4096x1_0_0)
        (broadcastInDim S4096x1 ![] bcast_S_S4096x1 (constant (F := Ideal) S_ .f32 0x7F800000#32)) i = 1#1)
      ∧ (∀ i, cmpf (F := Ideal) (φ := .f32) .oeq (extractStridedSlice S4096x2 ![0, 1] x slices_S4096x4096_S4096x2_0_1)
        (broadcastInDim S4096x2 ![] bcast_S_S4096x2 (constant (F := Ideal) S_ .f32 0x00000000#32)) i = 1#1)
      ∧ (∀ i, cmpf (F := Ideal) (φ := .f32) .une (addf (F := Ideal) y
          (broadcastInDim S4096x4096 ![] bcast_S_S4096x4096 (constant (F := Ideal) S_ .f32 0x33D6BF95#32)))
        (broadcastInDim S4096x4096 ![] bcast_S_S4096x4096 (constant (F := Ideal) S_ .f32 0x00000000#32)) i = 1#1)
      ∧ (∀ i, ori (cmpf (F := Ideal) (φ := .f32) .olt y
        (broadcastInDim S4096x4096 ![] bcast_S_S4096x4096 (constant (F := Ideal) S_ .f32 0x4E6E6B28#32))) (noti e) i = 1#1)
      ∧ ∀ i, cmpf (F := Ideal) (φ := .f32) .ole (extractStridedSlice S4095x4096 ![0, 0] y slices_S4096x4096_S4095x4096_0_0)
        (extractStridedSlice S4095x4096 ![1, 0] y slices_S4096x4096_S4095x4096_1_0) i = 1#1 := by
  let j : S_.Idx := fun a => a.elim0
  have h0 := congrFun h j
  obtain ⟨h1, hf⟩ := both h0
  obtain ⟨h2, he⟩ := both h1
  obtain ⟨h3, hd⟩ := both h2
  obtain ⟨h4, hc⟩ := both h3
  obtain ⟨ha, hb⟩ := both h4
  exact ⟨Host.reduce_andi_all _ _ _ _ j ha, Host.reduce_andi_all _ _ _ _ j hb, Host.reduce_andi_all _ _ _ _ j hc,
    Host.reduce_andi_all _ _ _ _ j hd, Host.reduce_andi_all _ _ _ _ j he, Host.reduce_andi_all _ _ _ _ j hf⟩

/-- The first coefficient of every row is finite. -/
theorem first_finite (x y : FVec Ideal S4096x4096 .f32) (e : IVec S4096x4096 1) (h : fn (F := Ideal) x y e = fun _ => 1#1)
    (r : Fin 4096) : (x (ix2 r (0 : Fin 4096)) : EReal) = ((x (ix2 r (0 : Fin 4096)) : EReal).toReal : EReal) := by
  have hx : extractStridedSlice S4096x1 ![0, 0] x slices_S4096x4096_S4096x1_0_0 (ix2 r (0 : Fin 1)) = x (ix2 r (0 : Fin 4096)) := by
    pointwise []
  have hl := holds_of_bit (p := Ideal.ofBits .f32 0xFF800000#32
    < (extractStridedSlice S4096x1 ![0, 0] x slices_S4096x4096_S4096x1_0_0 (ix2 r (0 : Fin 1)) : EReal)) ((split x y e h).1 (ix2 r 0))
  have hu := holds_of_bit (p := (extractStridedSlice S4096x1 ![0, 0] x slices_S4096x4096_S4096x1_0_0 (ix2 r (0 : Fin 1)) : EReal)
    < Ideal.ofBits .f32 0x7F800000#32) ((split x y e h).2.1 (ix2 r 0))
  rw [hx] at hl hu
  exact (EReal.coe_toReal (ne_top_of_lt hu) (ne_bot_of_gt hl)).symm

/-- The second and third coefficients of every row are zero. -/
theorem coefficient (x y : FVec Ideal S4096x4096 .f32) (e : IVec S4096x4096 1) (h : fn (F := Ideal) x y e = fun _ => 1#1)
    (r : Fin 4096) (k : Fin 2) (hk : 1 + k.val < 4096) : (x (ix2 r (⟨1 + k.val, hk⟩ : Fin 4096)) : EReal) = 0 := by
  have hx : extractStridedSlice S4096x2 ![0, 1] x slices_S4096x4096_S4096x2_0_1 (ix2 r k) = x (ix2 r (⟨1 + k.val, hk⟩ : Fin 4096)) := by
    pointwise []
  have := holds_of_bit (p := (extractStridedSlice S4096x2 ![0, 1] x slices_S4096x4096_S4096x2_0_1 (ix2 r k) : EReal)
    = Ideal.ofBits .f32 0x00000000#32) ((split x y e h).2.2.1 (ix2 r k))
  rw [hx, Ideal.ofBits_zero_f32] at this
  exact this

/-- No time is the one whose reciprocal the log hazard cannot take. -/
theorem divisor_ne_zero (x y : FVec Ideal S4096x4096 .f32) (e : IVec S4096x4096 1) (h : fn (F := Ideal) x y e = fun _ => 1#1)
    (i : S4096x4096.Idx) : (y i : EReal) + Ideal.ofBits .f32 0x33D6BF95#32 ≠ 0 := by
  have := holds_of_bit (p := (y i : EReal) + Ideal.ofBits .f32 0x33D6BF95#32 ≠ Ideal.ofBits .f32 0x00000000#32)
    ((split x y e h).2.2.2.1 i)
  rwa [Ideal.ofBits_zero_f32] at this

/-- Of two bits, the second negated, one is 1 only when the first is or the second is not. -/
theorem either : ∀ a b : BitVec 1, IntOp.ori a (~~~b) = 1#1 → a = 1#1 ∨ b = 0#1 := by decide

/-- Every event's time is below the censoring time. -/
theorem uncensored (x y : FVec Ideal S4096x4096 .f32) (e : IVec S4096x4096 1) (h : fn (F := Ideal) x y e = fun _ => 1#1)
    (i : S4096x4096.Idx) : (y i : EReal) < Ideal.ofBits .f32 0x4E6E6B28#32 ∨ e i = 0#1 :=
  (either _ _ ((split x y e h).2.2.2.2.1 i)).imp_left fun hb =>
    holds_of_bit (p := (y i : EReal) < Ideal.ofBits .f32 0x4E6E6B28#32) hb

/-- A row's times are at most the next row's. -/
theorem next_row (x y : FVec Ideal S4096x4096 .f32) (e : IVec S4096x4096 1) (h : fn (F := Ideal) x y e = fun _ => 1#1)
    (q : Fin 4096) (n : ℕ) (hn : n + 1 < 4096) :
    (y (ix2 (⟨n, by omega⟩ : Fin 4096) q) : EReal) ≤ y (ix2 (⟨n + 1, hn⟩ : Fin 4096) q) := by
  let r : Fin 4095 := ⟨n, by omega⟩
  have h0 : extractStridedSlice S4095x4096 ![0, 0] y slices_S4096x4096_S4095x4096_0_0 (ix2 r q)
      = y (ix2 (⟨r.val, by omega⟩ : Fin 4096) q) := by pointwise []
  have h1 : extractStridedSlice S4095x4096 ![1, 0] y slices_S4096x4096_S4095x4096_1_0 (ix2 r q)
      = y (ix2 (⟨r.val + 1, by omega⟩ : Fin 4096) q) := by
    pointwise []
    exact congrArg (fun p : Fin 4096 => y (ix2 p q)) (Fin.ext (Nat.add_comm 1 r.val))
  have hb := holds_of_bit (p := (extractStridedSlice S4095x4096 ![0, 0] y slices_S4096x4096_S4095x4096_0_0 (ix2 r q) : EReal)
    ≤ extractStridedSlice S4095x4096 ![1, 0] y slices_S4096x4096_S4095x4096_1_0 (ix2 r q)) ((split x y e h).2.2.2.2.2 (ix2 r q))
  rw [h0, h1] at hb
  exact hb

/-- Down every column the times are in ascending order. -/
theorem ascending (x y : FVec Ideal S4096x4096 .f32) (e : IVec S4096x4096 1) (h : fn (F := Ideal) x y e = fun _ => 1#1)
    (q r r' : Fin 4096) (hr : r ≤ r') : (y (ix2 r q) : EReal) ≤ y (ix2 r' q) := by
  have step : ∀ (d n : ℕ) (hd : n + d < 4096),
      (y (ix2 (⟨n, by omega⟩ : Fin 4096) q) : EReal) ≤ y (ix2 (⟨n + d, hd⟩ : Fin 4096) q) := by
    intro d
    induction d with
    | zero => exact fun n hd => le_refl _
    | succ d ih => exact fun n hd => (ih n (by omega)).trans (next_row x y e h q (n + d) hd)
  have hr' : r.val ≤ r'.val := hr
  have := step (r'.val - r.val) r.val (by omega)
  have he : (⟨r.val + (r'.val - r.val), by omega⟩ : Fin 4096) = r' := Fin.ext (by show r.val + (r'.val - r.val) = r'.val; omega)
  rwa [he] at this

end Cert.Pre_ordered_times_level_scores.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ordered_times_level_scores

public import proofs.«01_k».proof.Proof.Gen.ReferenceIdeal.Run
public import proofs.«01_k».proof.Proof.KernelRun
public import proofs.«01_k».proof.Proof.RefValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- On arguments the precondition admits, the reference's loss is the quotient of the two sums over the events. -/
theorem reference_loss (x y : Vec Ideal Cert.ReferenceIdeal.S4096x4096 .f32) (e : Vec Ideal Cert.ReferenceIdeal.S4096x4096 .i1)
    (h : Cert.Pre_ordered_times_level_scores.fn (F := Ideal) x y e = fun _ => 1#1) :
    Cert.ReferenceIdeal.Value.orderedLoss
        (Cert.ReferenceIdeal.Value.takeF (Cert.ReferenceIdeal.Value.starts (Cert.ReferenceIdeal.Value.order y)) x)
        (Cert.ReferenceIdeal.Value.takeF (Cert.ReferenceIdeal.Value.starts (Cert.ReferenceIdeal.Value.order y)) y)
        (Cert.ReferenceIdeal.Value.takeI (Cert.ReferenceIdeal.Value.starts (Cert.ReferenceIdeal.Value.order y)) e)
      = fun _ => Loss.loss (Cert.KernelIdeal.Value.event e) := by
  rw [Cert.ReferenceIdeal.Value.order_eq y (Cert.Pre_ordered_times_level_scores.Read.ascending x y e h),
    Cert.ReferenceIdeal.Value.takeF_iota, Cert.ReferenceIdeal.Value.takeF_iota, Cert.ReferenceIdeal.Value.takeI_iota]
  funext j
  exact Cert.ReferenceIdeal.Value.orderedLoss_eq x y e
    (fun r => (x (ix2 r (0 : Fin 4096)) : EReal).toReal)
    (Cert.ReferenceIdeal.Value.score_level x y _
      (Cert.Pre_ordered_times_level_scores.Read.first_finite x y e h)
      (fun r => Cert.Pre_ordered_times_level_scores.Read.coefficient x y e h r 0 (by decide))
      (fun r => Cert.Pre_ordered_times_level_scores.Read.coefficient x y e h r 1 (by decide))
      (Cert.Pre_ordered_times_level_scores.Read.divisor_ne_zero x y e h))
    (Cert.Pre_ordered_times_level_scores.Read.uncensored x y e h) j

/-- The two programs' results are equal. -/
theorem algebraic : Cert.algebraic_KernelIdeal_ReferenceIdeal_pre_ordered_times_level_scores := by
  intro m g m' g' hpre hagree
  refine ⟨fun c => fun _ => Loss.loss (Cert.KernelIdeal.Value.event (m ((c.tc : Thread Cert.KernelIdeal.nD Cert.KernelIdeal.τ).loc Cert.KernelIdeal.main_arg2))),
    Cert.KernelIdeal.Value.run m g,
    (θ_run _ _ _).mono (fun r h c => ⟨(h c).1.trans ?_, (h c).2⟩) (Cert.ReferenceIdeal.Value.run m' g')⟩
  obtain ⟨h0, h1, h2⟩ := hagree c
  rw [Cert.ReferenceIdeal.Value.result_ordered, h0, h1, h2]
  exact reference_loss _ _ _ (hpre c)

/-- The reference leaves its arguments alone, and has no semaphore to leave raised. -/
theorem reference_frame : Cert.quiescent_ReferenceIdeal := by
  intro m g _
  exact (θ_run _ _ _).mono (fun r h => ⟨fun c => (h c).2, sem_eq_zero_of_no_sems (by decide) r.2⟩) (Cert.ReferenceIdeal.Value.run m g)

/-- All the claims. -/
theorem claim : Cert.Claim := ⟨Cert.Kernel.Gen.facts, Cert.KernelIdeal.Gen.facts, Cert.ReferenceIdeal.Gen.facts, Cert.Pre_ordered_times_level_scores.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  algebraic⟩

end Cert.Proof

end
